-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_set_up [hPre_as_set_up : Cert.Pre_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_set_up [hPre_as_set_up : Cert.Pre_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_as_set_up [hKernelIdeal : Cert.KernelIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_as_set_up [hReferenceIdeal : Cert.ReferenceIdeal.Facts] [hPre_as_set_up : Cert.Pre_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_as_set_up [hKernelIdeal : Cert.KernelIdeal.Facts] [hReferenceIdeal : Cert.ReferenceIdeal.Facts] [hPre_as_set_up : Cert.Pre_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_as_set_up : Cert.Pre_as_set_up.Facts),
    quiescent_Kernel (hKernel := hKernel)
    ∧ quiescent_KernelIdeal (hKernelIdeal := hKernelIdeal)
    ∧ quiescent_KernelIdeal_pre_as_set_up (hKernelIdeal := hKernelIdeal) (hPre_as_set_up := hPre_as_set_up)
    ∧ quiescent_ReferenceIdeal (hReferenceIdeal := hReferenceIdeal)
    ∧ quiescent_ReferenceIdeal_pre_as_set_up (hReferenceIdeal := hReferenceIdeal) (hPre_as_set_up := hPre_as_set_up)
    ∧ preserves_Kernel_KernelIdeal
    ∧ algebraic_KernelIdeal_ReferenceIdeal_pre_as_set_up (hKernelIdeal := hKernelIdeal) (hReferenceIdeal := hReferenceIdeal) (hPre_as_set_up := hPre_as_set_up)
-- ==== Pre_as_set_up.lean ====
abbrev S4096 : Shape := ⟨1, ![4096]⟩
abbrev S2 : Shape := ⟨1, ![2]⟩
abbrev S64 : Shape := ⟨1, ![64]⟩
abbrev S4162x256 : Shape := ⟨2, ![4162, 256]⟩
abbrev S256 : Shape := ⟨1, ![256]⟩
abbrev S256x64 : Shape := ⟨2, ![256, 64]⟩
abbrev S256x1 : Shape := ⟨2, ![256, 1]⟩
abbrev S1 : Shape := ⟨1, ![1]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg10 : FVec F S1 .f32) (main_v14 : IVec S_ 1) (main_cst_6 : FVec F S_ .f32) : IVec S_ 1 :=
  let main_v15 : FVec F S1 .f32 := broadcastInDim S1 ![] bcast_S_S1 main_cst_6
  let main_v16 : IVec S1 1 := cmpf .oeq main_arg10 main_v15
  let main_c_7 : IVec S_ 1 := constantI S_ 1 1#1
  let main_v17 : IVec S_ 1 := (fun x v => Host.reduce IntOp.andi x v reducesTo_S1_S_d0 h_S_) main_v16 main_c_7
  let main_v18 : IVec S_ 1 := andi main_v14 main_v17
  main_v18

def fn {F : FTy → Type} [FloatOps F] (main_arg0 : FVec F S4096 .f32) (main_arg1 : FVec F S2 .f32) (main_arg2 : FVec F S64 .f32) (main_arg3 : FVec F S4162x256 .f32) (main_arg4 : FVec F S256 .f32) (main_arg5 : FVec F S256x64 .f32) (main_arg6 : FVec F S64 .f32) (main_arg7 : FVec F S4162x256 .f32) (main_arg8 : FVec F S256 .f32) (main_arg9 : FVec F S256x1 .f32) (main_arg10 : FVec F S1 .f32) : IVec S_ 1 :=
  let main_cst : FVec F S_ .f32 := constant S_ .f32 0x3F800000#32
  let main_v0 : FVec F S64 .f32 := broadcastInDim S64 ![] bcast_S_S64 main_cst
  let main_v1 : IVec S64 1 := cmpf .oeq main_arg2 main_v0
  let main_c : IVec S_ 1 := constantI S_ 1 1#1
  let main_v2 : IVec S_ 1 := (fun x v => Host.reduce IntOp.andi x v reducesTo_S64_S_d0 h_S_) main_v1 main_c
  let main_cst_0 : FVec F S_ .f32 := constant S_ .f32 0x00000000#32
  let main_v3 : FVec F S256 .f32 := broadcastInDim S256 ![] bcast_S_S256 main_cst_0
  let main_v4 : IVec S256 1 := cmpf .oeq main_arg4 main_v3
  let main_c_1 : IVec S_ 1 := constantI S_ 1 1#1
  let main_v5 : IVec S_ 1 := (fun x v => Host.reduce IntOp.andi x v reducesTo_S256_S_d0 h_S_) main_v4 main_c_1
  let main_v6 : IVec S_ 1 := andi main_v2 main_v5
  let main_cst_2 : FVec F S_ .f32 := constant S_ .f32 0x00000000#32
  let main_v7 : FVec F S64 .f32 := broadcastInDim S64 ![] bcast_S_S64 main_cst_2
  let main_v8 : IVec S64 1 := cmpf .oeq main_arg6 main_v7
  let main_c_3 : IVec S_ 1 := constantI S_ 1 1#1
  let main_v9 : IVec S_ 1 := (fun x v => Host.reduce IntOp.andi x v reducesTo_S64_S_d0 h_S_) main_v8 main_c_3
  let main_v10 : IVec S_ 1 := andi main_v6 main_v9
  let main_cst_4 : FVec F S_ .f32 := constant S_ .f32 0x00000000#32
  let main_v11 : FVec F S256 .f32 := broadcastInDim S256 ![] bcast_S_S256 main_cst_4
  let main_v12 : IVec S256 1 := cmpf .oeq main_arg8 main_v11
  let main_c_5 : IVec S_ 1 := constantI S_ 1 1#1
  let main_v13 : IVec S_ 1 := (fun x v => Host.reduce IntOp.andi x v reducesTo_S256_S_d0 h_S_) main_v12 main_c_5
  let main_v14 : IVec S_ 1 := andi main_v10 main_v13
  let main_cst_6 : FVec F S_ .f32 := constant S_ .f32 0x00000000#32
  fn_part1 (F := F) main_arg10 main_v14 main_cst_6
-- ==== Kernel.lean ====
abbrev S4096 : Shape := ⟨1, ![4096]⟩
abbrev S2 : Shape := ⟨1, ![2]⟩
abbrev S64 : Shape := ⟨1, ![64]⟩
abbrev S4162x256 : Shape := ⟨2, ![4162, 256]⟩
abbrev S256 : Shape := ⟨1, ![256]⟩
abbrev S256x64 : Shape := ⟨2, ![256, 64]⟩
abbrev S256x1 : Shape := ⟨2, ![256, 1]⟩
abbrev S1 : Shape := ⟨1, ![1]⟩
abbrev S1x4096 : Shape := ⟨2, ![1, 4096]⟩
abbrev S1x2 : Shape := ⟨2, ![1, 2]⟩
abbrev S1x64 : Shape := ⟨2, ![1, 64]⟩
abbrev S1x1 : Shape := ⟨2, ![1, 1]⟩
abbrev S6 : Shape := ⟨1, ![6]⟩
abbrev S_ : Shape := ⟨0, ![]⟩
abbrev S1x256 : Shape := ⟨2, ![1, 256]⟩
abbrev S1x1024 : Shape := ⟨2, ![1, 1024]⟩
abbrev S1024x1 : Shape := ⟨2, ![1024, 1]⟩
abbrev S1024x256 : Shape := ⟨2, ![1024, 256]⟩
abbrev S1x66 : Shape := ⟨2, ![1, 66]⟩
abbrev S66x1 : Shape := ⟨2, ![66, 1]⟩
abbrev S66x256 : Shape := ⟨2, ![66, 256]⟩

abbrev nBuf : Space → Nat
  | .hbm => 17
  | .vmem => 8
  | .smem => 0
  | _ => 0

abbrev bufTy : (tb : Table) → Fin (tcTables nBuf tb) → BufTy
  | .hbm, ⟨0, _⟩ => ⟨S4096, .f32⟩
  | .hbm, ⟨1, _⟩ => ⟨S2, .f32⟩
  | .hbm, ⟨2, _⟩ => ⟨S64, .f32⟩
  | .hbm, ⟨3, _⟩ => ⟨S4162x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S4162x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S1x4096, .f32⟩
  | .hbm, ⟨12, _⟩ => ⟨S1x2, .f32⟩
  | .hbm, ⟨13, _⟩ => ⟨S1x64, .f32⟩
  | .hbm, ⟨14, _⟩ => ⟨S1x1, .f32⟩
  | .hbm, ⟨15, _⟩ => ⟨S64, .f32⟩
  | .hbm, ⟨16, _⟩ => ⟨S1, .f32⟩
  | .local _ .vmem, ⟨0, _⟩ => ⟨S1x64, .f32⟩
  | .local _ .vmem, ⟨1, _⟩ => ⟨S1x1, .f32⟩
  | .local _ .vmem, ⟨2, _⟩ => ⟨S1x4096, .f32⟩
  | .local _ .vmem, ⟨3, _⟩ => ⟨S1x2, .f32⟩
  | .local _ .vmem, ⟨4, _⟩ => ⟨S4162x256, .f32⟩
  | .local _ .vmem, ⟨5, _⟩ => ⟨S4162x256, .f32⟩
  | .local _ .vmem, ⟨6, _⟩ => ⟨S256x64, .f32⟩
  | .local _ .vmem, ⟨7, _⟩ => ⟨S256x1, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096 : Shape := ⟨1, ![4096]⟩
abbrev S2 : Shape := ⟨1, ![2]⟩
abbrev S64 : Shape := ⟨1, ![64]⟩
abbrev S4162x256 : Shape := ⟨2, ![4162, 256]⟩
abbrev S256 : Shape := ⟨1, ![256]⟩
abbrev S256x64 : Shape := ⟨2, ![256, 64]⟩
abbrev S256x1 : Shape := ⟨2, ![256, 1]⟩
abbrev S1 : Shape := ⟨1, ![1]⟩
abbrev S4162 : Shape := ⟨1, ![4162]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096, .f32⟩
  | .hbm, ⟨1, _⟩ => ⟨S2, .f32⟩
  | .hbm, ⟨2, _⟩ => ⟨S64, .f32⟩
  | .hbm, ⟨3, _⟩ => ⟨S4162x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S4162x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S4162, .f32⟩
  | .hbm, ⟨12, _⟩ => ⟨S256, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S64, .f32⟩
  | .hbm, ⟨18, _⟩ => ⟨S64, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S1, .f32⟩
  | .hbm, ⟨25, _⟩ => ⟨S1, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_cst : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call1_cst : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩

abbrev nD : Nat := 1
abbrev τ : Topo := Topo.v7x

variable {F : FTy → Type} [FloatOps F]
-- ==== Proof.Sums.lean ====
/- The arithmetic both programs share: the network's input vector and its two layers written as sums, the first layer's
   sum of 4162 terms cut into the five stretches in which the kernel takes it, and what one such stretch is when it is
   computed as an elementwise product reduced over the rows. -/
module

public import Idealize.ShloMosaic.Lib.Pipeline.Value
public import Idealize.ShloMosaic.Lib.ValueIdx
public import Idealize.ShloMosaic.Lib.ValueIdxCoords
public import Idealize.ShloMosaic.Lib.ValueLayout
public import Idealize.ShloMosaic.PureOps.Ideal.Laws

@[expose] public section

noncomputable section

namespace Cert.Proof

open Idealize.ShloMosaic Idealize.ShloMosaic.ValueIdx

/-- The input vector: the 4096 observations, the two resource figures, the 64 performance figures, one after another. -/
def state (x : Fin 4096 → EReal) (ri : Fin 2 → EReal) (perf : Fin 64 → EReal) (k : Fin 4162) : EReal :=
  if h : k.val < 4096 then x ⟨k.val, h⟩
  else if h' : k.val < 4098 then ri ⟨k.val - 4096, by omega⟩
  else perf ⟨k.val - 4098, by omega⟩

/-- One hidden unit: the weighted sum of the input vector, cut off below at zero. -/
def hidden (s : Fin 4162 → EReal) (W : Fin 4162 → Fin 256 → EReal) (b : Fin 256 → EReal) (j : Fin 256) : EReal :=
  max ((∑ k : Fin 4162, s k * W k j) + b j) 0

/-- One output: the weighted sum of the hidden units plus a bias. -/
def output (hid : Fin 256 → EReal) (w : Fin 256 → EReal) (b : EReal) : EReal :=
  (∑ j : Fin 256, hid j * w j) + b

/-- A sum of 4162 terms is the sum of its first four stretches of 1024 and its last stretch of 66. -/
theorem sum_stretches {M : Type*} [AddCommMonoid M] (f : Fin 4162 → M) :
    ∑ k : Fin 4162, f k
      = ((((∑ i : Fin 1024, f ⟨0 + i.val, by omega⟩) + ∑ i : Fin 1024, f ⟨1024 + i.val, by omega⟩)
          + ∑ i : Fin 1024, f ⟨2048 + i.val, by omega⟩) + ∑ i : Fin 1024, f ⟨3072 + i.val, by omega⟩)
        + ∑ i : Fin 66, f ⟨4096 + i.val, by omega⟩ := by
  have e1 : ∑ k : Fin 4162, f k
      = (∑ i : Fin 4096, f ⟨i.val, by omega⟩) + ∑ i : Fin 66, f ⟨4096 + i.val, by omega⟩ :=
    Fin.sum_univ_add (a := 4096) (b := 66) f
  have e2 : (∑ i : Fin 4096, f ⟨i.val, by omega⟩)
      = (∑ i : Fin 3072, f ⟨i.val, by omega⟩) + ∑ i : Fin 1024, f ⟨3072 + i.val, by omega⟩ :=
    Fin.sum_univ_add (a := 3072) (b := 1024) fun i : Fin 4096 => f ⟨i.val, by omega⟩
  have e3 : (∑ i : Fin 3072, f ⟨i.val, by omega⟩)
      = (∑ i : Fin 2048, f ⟨i.val, by omega⟩) + ∑ i : Fin 1024, f ⟨2048 + i.val, by omega⟩ :=
    Fin.sum_univ_add (a := 2048) (b := 1024) fun i : Fin 3072 => f ⟨i.val, by omega⟩
  have e4 : (∑ i : Fin 2048, f ⟨i.val, by omega⟩)
      = (∑ i : Fin 1024, f ⟨i.val, by omega⟩) + ∑ i : Fin 1024, f ⟨1024 + i.val, by omega⟩ :=
    Fin.sum_univ_add (a := 1024) (b := 1024) fun i : Fin 2048 => f ⟨i.val, by omega⟩
  rw [e1, e2, e3, e4]
  simp only [Nat.zero_add]

/-- A column of height `n` repeated across 256 columns, multiplied into a matrix and summed over the rows, is at column
    `j` the sum over the rows of the entry times the column's entry. -/
theorem rowsum_apply {n : Nat} (W : FVec Ideal ⟨2, ![n, 256]⟩ .f32) (col : FVec Ideal ⟨2, ![n, 1]⟩ .f32)
    (hb : (⟨2, ![n, 1]⟩ : Shape).Broadcasts ⟨2, ![n, 256]⟩) (hr : (⟨2, ![n, 256]⟩ : Shape).Reduces [0] ⟨1, ![256]⟩)
    (hφ : FKind.Formats .f32) (hz : (0x00000000#32 : BitVec 32) = FKind.add.neutral .f32 hφ)
    (hc : (⟨1, ![256]⟩ : Shape).ShapeCasts ⟨2, ![1, 256]⟩) (j : Fin 256) :
    shapeCast ⟨2, ![1, 256]⟩ (multiReduction .add [0] ⟨1, ![256]⟩ (mulf W (broadcastTo ⟨2, ![n, 256]⟩ col hb))
        0x00000000#32 hr hφ hz) hc (ix2 (0 : Fin 1) j)
      = ∑ k : Fin n, W (ix2 k j) * col (ix2 k (0 : Fin 1)) := by
  rw [shapeCast_a_1a_apply, Ideal.multiReduction_add_single]
  refine Finset.sum_congr rfl fun (k : Fin n) _ => ?_
  have hl : hr.lift (ix1 j) k = (ix2 k j : (⟨2, ![n, 256]⟩ : Shape).Idx) := by
    funext a
    match a with
    | ⟨0, _⟩ => rfl
    | ⟨1, _⟩ => rfl
  rw [hl, mulf_apply]
  congr 1
  refine broadcastTo_apply col hb (ix2 k j) (ix2 k (0 : Fin 1)) fun a => ?_
  match a with
  | ⟨0, _⟩ =>
    show k.val = if n = 1 then 0 else k.val
    have := k.isLt
    split <;> omega
  | ⟨1, _⟩ => rfl

/-- A row laid out as a column. -/
theorem column_apply {α : Type} {n : Nat} (v : (⟨2, ![1, n]⟩ : Shape).Idx → α)
    (h : (⟨2, ![1, n]⟩ : Shape).ShapeCasts ⟨2, ![n, 1]⟩) (k : Fin n) :
    shapeCast ⟨2, ![n, 1]⟩ v h (ix2 k (0 : Fin 1)) = v (ix2 (0 : Fin 1) k) :=
  shapeCast_apply v h _ _ (by
    rw [Shape.rowMajor_val_two, Shape.rowMajor_val_two]
    simp)

end Cert.Proof

end
-- ==== Proof.Payload.lean ====
/- What the kernel's arithmetic computes, over the reals, at an index: each stretch of the first layer as a sum over its
   rows, a hidden unit as the cut-off sum of the five stretches, and the two results as sums over the hidden units. The
   operands are arbitrary here; which part of which array each one is, is said in the module on the block. -/
module

public import proofs.«01_k».proof.Proof.Gen.KernelIdeal.Skeleton
public import proofs.«01_k».proof.Proof.Sums
public import Idealize.ShloMosaic.Lib.IdealHost

@[expose] public section

noncomputable section

namespace Cert.Proof

open Cert.KernelIdeal Cert.KernelIdeal.Gen Idealize.ShloMosaic Idealize.ShloMosaic.ValueIdx

/-- One stretch of 1024 rows: weights times inputs, summed. -/
def stretch (W : FVec Ideal S1024x256 .f32) (v : FVec Ideal S1x1024 .f32) (j : Fin 256) : EReal :=
  ∑ k : Fin 1024, W (ix2 k j) * v (ix2 (0 : Fin 1) k)

/-- The last 66 inputs as the kernel builds them: the two resource figures and 64 ones. -/
def tailInput (r : FVec Ideal S1x2 .f32) (k : Fin 66) : EReal :=
  if h : k.val < 2 then r (ix2 (0 : Fin 1) (⟨k.val, h⟩ : Fin 2)) else 1

/-- The last stretch: 66 rows. -/
def tailStretch (W : FVec Ideal S66x256 .f32) (r : FVec Ideal S1x2 .f32) (j : Fin 256) : EReal :=
  ∑ k : Fin 66, W (ix2 k j) * tailInput r k

theorem pay5_apply (v : FVec Ideal S1x1024 .f32) (k : Fin 1024) :
    k0_pay5 (F := Ideal) v (ix2 k (0 : Fin 1)) = v (ix2 (0 : Fin 1) k) := column_apply v _ k

theorem pay7_apply (v : FVec Ideal S1x1024 .f32) (k : Fin 1024) :
    k0_pay7 (F := Ideal) v (ix2 k (0 : Fin 1)) = v (ix2 (0 : Fin 1) k) := column_apply v _ k

theorem pay9_apply (v : FVec Ideal S1x1024 .f32) (k : Fin 1024) :
    k0_pay9 (F := Ideal) v (ix2 k (0 : Fin 1)) = v (ix2 (0 : Fin 1) k) := column_apply v _ k

theorem pay11_apply (v : FVec Ideal S1x1024 .f32) (k : Fin 1024) :
    k0_pay11 (F := Ideal) v (ix2 k (0 : Fin 1)) = v (ix2 (0 : Fin 1) k) := column_apply v _ k

/-- The tail column: the two resource figures, then ones. -/
theorem pay13_apply (r : FVec Ideal S1x2 .f32) (k : Fin 66) :
    k0_pay13 (F := Ideal) r (ix2 k (0 : Fin 1)) = tailInput r k := by
  unfold k0_pay13
  refine (column_apply (n := 66) (concatenate S1x66 1 [⟨S1x2, r⟩,
    ⟨S1x64, broadcast S1x64 (Scalar.ofBits (F := Ideal) .f32 0x3F800000#32)⟩] concatenates_S1x2_S1x64_S1x66_d1)
    shapeCasts_S1x66_S66x1 k).trans ?_
  unfold tailInput
  split
  · rename_i h
    refine concatenate_pair_apply_left (t := S1x66) (s₁ := S1x2) (s₂ := S1x64) 1 _ _ _
      (ix2 (0 : Fin 1) k) rfl (ix2 (0 : Fin 1) (⟨k.val, h⟩ : Fin 2)) fun b => ?_
    match b with
    | ⟨0, _⟩ => rfl
    | ⟨1, _⟩ => rfl
  · rename_i h
    refine (concatenate_pair_apply_right (t := S1x66) (s₁ := S1x2) (s₂ := S1x64) 1 _ _ _
      (ix2 (0 : Fin 1) k) rfl rfl (ix2 (0 : Fin 1) (⟨k.val - 2, by omega⟩ : Fin 64)) (fun b hb => ?_) ?_).trans
      Ideal.ofBits_one_f32
    · match b with
      | ⟨0, _⟩ => rfl
      | ⟨1, _⟩ => exact absurd rfl hb
    · show k.val - 2 + 2 = k.val
      omega

/-- A stretch as the kernel computes it, whichever column of inputs it is given. -/
theorem stretch_apply (W : FVec Ideal S1024x256 .f32) (col : FVec Ideal S1024x1 .f32) (v : FVec Ideal S1x1024 .f32)
    (hcol : ∀ k : Fin 1024, col (ix2 k (0 : Fin 1)) = v (ix2 (0 : Fin 1) k)) (j : Fin 256) :
    shapeCast S1x256 (multiReduction .add [0] S256 (mulf W (broadcastTo S1024x256 col broadcasts_S1024x1_S1024x256))
        0x00000000#32 reduces_S1024x256_S256 (.inl rfl) rfl) shapeCasts_S256_S1x256 (ix2 (0 : Fin 1) j)
      = stretch W v j :=
  (rowsum_apply (n := 1024) W col _ _ _ _ _ j).trans (Finset.sum_congr rfl fun k _ => by rw [hcol])

theorem tailStretch_apply (W : FVec Ideal S66x256 .f32) (r : FVec Ideal S1x2 .f32) (j : Fin 256) :
    shapeCast S1x256 (multiReduction .add [0] S256 (mulf W (broadcastTo S66x256 (k0_pay13 (F := Ideal) r) broadcasts_S66x1_S66x256))
        0x00000000#32 reduces_S66x256_S256 (.inl rfl) rfl) shapeCasts_S256_S1x256 (ix2 (0 : Fin 1) j)
      = tailStretch W r j :=
  (rowsum_apply (n := 66) W _ _ _ _ _ _ j).trans (Finset.sum_congr rfl fun k _ => by rw [pay13_apply])

theorem pay6_apply (v : FVec Ideal S1x1024 .f32) (W : FVec Ideal S1024x256 .f32) (j : Fin 256) :
    k0_pay6 (F := Ideal) v W (ix2 (0 : Fin 1) j) = stretch W v j := stretch_apply W _ v (pay5_apply v) j

theorem pay10_apply (a0 a1 : FVec Ideal S1x256 .f32) (v2 v3 : FVec Ideal S1x1024 .f32) (W2 W3 : FVec Ideal S1024x256 .f32) (j : Fin 256) :
    k0_pay10 (F := Ideal) a0 a1 v2 W2 v3 W3 (ix2 (0 : Fin 1) j)
      = a0 (ix2 (0 : Fin 1) j) + a1 (ix2 (0 : Fin 1) j) + stretch W2 v2 j + stretch W3 v3 j := by
  rw [← stretch_apply W2 _ v2 (pay7_apply v2), ← stretch_apply W3 _ v3 (pay9_apply v3)]
  rfl

theorem pay14_apply (a : FVec Ideal S1x256 .f32) (v4 : FVec Ideal S1x1024 .f32) (W4 : FVec Ideal S1024x256 .f32)
    (r : FVec Ideal S1x2 .f32) (W5 : FVec Ideal S66x256 .f32) (j : Fin 256) :
    k0_pay14 (F := Ideal) a v4 W4 r W5 (ix2 (0 : Fin 1) j)
      = a (ix2 (0 : Fin 1) j) + stretch W4 v4 j + tailStretch W5 r j := by
  rw [← stretch_apply W4 _ v4 (pay11_apply v4), ← tailStretch_apply]
  rfl

theorem pay8_apply (a : FVec Ideal S1x256 .f32) (v1 v2 : FVec Ideal S1x1024 .f32) (W1 W2 : FVec Ideal S1024x256 .f32) (j : Fin 256) :
    k0_pay8 (F := Ideal) a (k0_pay5 v1) W1 v2 W2 (ix2 (0 : Fin 1) j)
      = a (ix2 (0 : Fin 1) j) + stretch W1 v1 j + stretch W2 v2 j := by
  rw [← stretch_apply W1 _ v1 (pay5_apply v1), ← stretch_apply W2 _ v2 (pay7_apply v2)]
  rfl

theorem pay12_apply (a : FVec Ideal S1x256 .f32) (v3 v4 : FVec Ideal S1x1024 .f32) (W3 W4 : FVec Ideal S1024x256 .f32) (j : Fin 256) :
    k0_pay12 (F := Ideal) a (k0_pay9 v3) W3 v4 W4 (ix2 (0 : Fin 1) j)
      = a (ix2 (0 : Fin 1) j) + stretch W3 v3 j + stretch W4 v4 j := by
  rw [← stretch_apply W3 _ v3 (pay9_apply v3), ← stretch_apply W4 _ v4 (pay11_apply v4)]
  rfl

theorem pay3_apply (i : S1x256.Idx) : k0_pay3 (F := Ideal) i = 0 := Ideal.ofBits_zero_f32

theorem pay4_apply (i : S1x256.Idx) : k0_pay4 (F := Ideal) i = 0 := Ideal.ofBits_zero_f32

/-- The first layer's weighted sum as the kernel takes it: the five stretches, in order. -/
def five (v1 v2 v3 v4 : FVec Ideal S1x1024 .f32) (r : FVec Ideal S1x2 .f32) (W1 W2 W3 W4 : FVec Ideal S1024x256 .f32)
    (W5 : FVec Ideal S66x256 .f32) (j : Fin 256) : EReal :=
  stretch W1 v1 j + stretch W2 v2 j + stretch W3 v3 j + stretch W4 v4 j + tailStretch W5 r j

/-- The policy head's hidden sums. -/
theorem policySum_apply (v1 v2 v3 v4 : FVec Ideal S1x1024 .f32) (r : FVec Ideal S1x2 .f32) (W1 W2 W3 W4 : FVec Ideal S1024x256 .f32)
    (W5 : FVec Ideal S66x256 .f32) (j : Fin 256) :
    k0_pay14 (F := Ideal) (k0_pay10 k0_pay3 (k0_pay6 v1 W1) v2 W2 v3 W3) v4 W4 r W5 (ix2 (0 : Fin 1) j)
      = five v1 v2 v3 v4 r W1 W2 W3 W4 W5 j := by
  rw [pay14_apply, pay10_apply, pay3_apply, pay6_apply, zero_add]
  rfl

/-- The value head's, before its last stretch. -/
theorem valueSum_apply (v1 v2 v3 v4 : FVec Ideal S1x1024 .f32) (W1 W2 W3 W4 : FVec Ideal S1024x256 .f32) (j : Fin 256) :
    k0_pay12 (F := Ideal) (k0_pay8 k0_pay4 (k0_pay5 v1) W1 v2 W2) (k0_pay9 v3) W3 v4 W4 (ix2 (0 : Fin 1) j)
      = stretch W1 v1 j + stretch W2 v2 j + stretch W3 v3 j + stretch W4 v4 j := by
  rw [pay12_apply, pay8_apply, pay4_apply, zero_add]

theorem lhs_policy_0 (i : S1x64.Idx) (q : dot_S1x256_S256x64_S1x64_1_0_0_1_n_n.contr.Idx) :
    (dot_S1x256_S256x64_S1x64_1_0_0_1_n_n.lhsIdx i q 1).val = (q ⟨0, by decide⟩).val :=
  dot_S1x256_S256x64_S1x64_1_0_0_1_n_n.lhsIdx_val_of_single rfl i q

theorem rhs_policy_0 (i : S1x64.Idx) (q : dot_S1x256_S256x64_S1x64_1_0_0_1_n_n.contr.Idx) :
    (dot_S1x256_S256x64_S1x64_1_0_0_1_n_n.rhsIdx i q 0).val = (q ⟨0, by decide⟩).val :=
  dot_S1x256_S256x64_S1x64_1_0_0_1_n_n.rhsIdx_val_of_single rfl i q

theorem rhs_policy_1 (i : S1x64.Idx) (q : dot_S1x256_S256x64_S1x64_1_0_0_1_n_n.contr.Idx) :
    (dot_S1x256_S256x64_S1x64_1_0_0_1_n_n.rhsIdx i q 1).val = (i 1).val := by
  simp [DotDims.rhsIdx, dot_S1x256_S256x64_S1x64_1_0_0_1_n_n]
  rfl

/-- The policy head's second layer: the cut-off hidden sums times the weights. -/
theorem pay1_apply (a : FVec Ideal S1x256 .f32) (W : FVec Ideal S256x64 .f32) (i : Fin 64) :
    k0_pay1 (F := Ideal) a W (ix2 (0 : Fin 1) i)
      = ∑ j : Fin 256, max (a (ix2 (0 : Fin 1) j)) 0 * W (ix2 j i) := by
  refine (Ideal.matmul_constant_zero_apply dot_S1x256_S256x64_S1x64_1_0_0_1_n_n _ _ _ _).trans ?_
  rw [← Equiv.sum_comp (contrEquiv1 dot_S1x256_S256x64_S1x64_1_0_0_1_n_n 256 rfl rfl).symm]
  refine Finset.sum_congr rfl fun j _ => ?_
  have hj := contrEquiv1_symm_val dot_S1x256_S256x64_S1x64_1_0_0_1_n_n 256 rfl rfl j
  have el : dot_S1x256_S256x64_S1x64_1_0_0_1_n_n.lhsIdx (ix2 (0 : Fin 1) i) ((contrEquiv1 dot_S1x256_S256x64_S1x64_1_0_0_1_n_n 256 rfl rfl).symm j)
      = ix2 (0 : Fin 1) j := funext fun a => Fin.ext (by
    match a with
    | ⟨0, h0⟩ => exact Nat.lt_one_iff.1 (Fin.isLt _)
    | ⟨1, _⟩ => exact (lhs_policy_0 _ _).trans hj)
  have er : dot_S1x256_S256x64_S1x64_1_0_0_1_n_n.rhsIdx (ix2 (0 : Fin 1) i) ((contrEquiv1 dot_S1x256_S256x64_S1x64_1_0_0_1_n_n 256 rfl rfl).symm j)
      = ix2 j i := funext fun a => Fin.ext (by
    match a with
    | ⟨0, _⟩ => exact (rhs_policy_0 _ _).trans hj
    | ⟨1, _⟩ => exact rhs_policy_1 _ _)
  rw [el, er]
  show max (a (ix2 (0 : Fin 1) j)) (Ideal.ofBits .f32 0x00000000#32) * W (ix2 j i) = _
  rw [Ideal.ofBits_zero_f32]

/-- The value head: its last stretch added, cut off, times the weights and summed. -/
theorem pay2_apply (a : FVec Ideal S1x256 .f32) (r : FVec Ideal S1x2 .f32) (W5 : FVec Ideal S66x256 .f32) (W : FVec Ideal S256x1 .f32) :
    k0_pay2 (F := Ideal) a (k0_pay13 r) (k0_pay15 W5) W (ix2 (0 : Fin 1) (0 : Fin 1))
      = ∑ j : Fin 256, max (a (ix2 (0 : Fin 1) j) + tailStretch W5 r j) 0 * W (ix2 j (0 : Fin 1)) := by
  unfold k0_pay2
  refine (shapeCast_a_1a_apply (a := 1) _ shapeCasts_S1_S1x1 (0 : Fin 1) (0 : Fin 1)).trans ?_
  refine (Ideal.multiReduction_add_single _ _ _ _ _ _).trans ?_
  refine Finset.sum_congr rfl fun (j : Fin 256) _ => ?_
  have hl : reduces_S256x1_S1.lift (ix1 (0 : Fin 1)) j = (ix2 j (0 : Fin 1) : S256x1.Idx) := by
    funext a
    match a with
    | ⟨0, _⟩ => rfl
    | ⟨1, _⟩ => rfl
  rw [hl]
  refine congrArg (· * W (ix2 j (0 : Fin 1))) ((column_apply _ _ j).trans ?_)
  rw [← tailStretch_apply]
  show max _ (Ideal.ofBits .f32 0x00000000#32) = _
  rw [Ideal.ofBits_zero_f32]
  rfl

end Cert.Proof

end
-- ==== Proof.Block.lean ====
/- What the kernel's one block writes. Its six operands are copied whole before they are read, so each load reads part of
   an operand; each result is stored once, whole, and so is the arithmetic's term over those loads. -/
module

public import proofs.«01_k».proof.Proof.Gen.KernelIdeal.Frame
public import proofs.«01_k».proof.Proof.Payload
public import Idealize.ShloMosaic.Lib.Pipeline.ValueKit.Tiles

@[expose] public section

set_option maxRecDepth 16384

noncomputable section

namespace Cert.Proof

open Cert.KernelIdeal Cert.KernelIdeal.Gen
open Idealize.ShloMosaic Idealize.ShloMosaic.TcCoe Idealize.SL.Sem Idealize.ShloMosaic.ValueIdx

section Reads

variable {Val : EltTy → Type} {S : Shape} {e : EltTy}

/-- One store of a whole array leaves what was stored. -/
theorem canon_of_whole [∀ e, Nonempty (Val e)] (w : S.Idx → Val e) :
    View.canon [(⟨Rect.whole S, w⟩ : View.Piece Val S e)] = w := by
  funext y
  have h := View.canon_cons_emb (Val := Val) (Rect.whole S) w [] y
  rw [Rect.emb_whole_apply] at h
  exact h

/-- A load from an array stored whole reads that part of what was stored. -/
theorem readCov_of_whole [∀ e, Nonempty (Val e)] {sig : RefSig} {κ : Kind} {sp : Space} (v : View sig κ sp S e)
    (w : S.Idx → Val e) (r : Rect S) :
    v.readCov [(⟨Rect.whole S, w⟩ : View.Piece Val S e)] r.toLoadRect = View.ld w r := by
  rw [View.readCov_eq_canon', canon_of_whole]

end Reads

variable {F : FTy → Type} [FloatOps F]
variable (m : (ℓ : Loc nD τ sig) → Buf (Elt F) ℓ)

/-- The policy head's result as the block stores it, over whole operands `x`, `r`, `W`, `w`. -/
def policyBlock (x : S1x4096.Idx → Elt F .f32) (r : S1x2.Idx → Elt F .f32) (W : S4162x256.Idx → Elt F .f32)
    (w : S256x64.Idx → Elt F .f32) : S1x64.Idx → Elt F .f32 :=
  k0_pay1
    (k0_pay14
      (k0_pay10 k0_pay3
        (k0_pay6 (View.ld x (Rect.unit ![0, 0] S1x1024.size inb_S1x4096_S1x1024_0_0))
          (View.ld W (Rect.unit ![0, 0] S1024x256.size inb_S4162x256_S1024x256_0_0)))
        (View.ld x (Rect.unit ![0, 1024] S1x1024.size inb_S1x4096_S1x1024_0_1024))
        (View.ld W (Rect.unit ![1024, 0] S1024x256.size inb_S4162x256_S1024x256_1024_0))
        (View.ld x (Rect.unit ![0, 2048] S1x1024.size inb_S1x4096_S1x1024_0_2048))
        (View.ld W (Rect.unit ![2048, 0] S1024x256.size inb_S4162x256_S1024x256_2048_0)))
      (View.ld x (Rect.unit ![0, 3072] S1x1024.size inb_S1x4096_S1x1024_0_3072))
      (View.ld W (Rect.unit ![3072, 0] S1024x256.size inb_S4162x256_S1024x256_3072_0))
      r
      (View.ld W (Rect.unit ![4096, 0] S66x256.size inb_S4162x256_S66x256_4096_0)))
    w

/-- The value head's result as the block stores it. -/
def valueBlock (x : S1x4096.Idx → Elt F .f32) (r : S1x2.Idx → Elt F .f32) (W : S4162x256.Idx → Elt F .f32)
    (w : S256x1.Idx → Elt F .f32) : S1x1.Idx → Elt F .f32 :=
  k0_pay2
    (k0_pay12
      (k0_pay8 k0_pay4
        (k0_pay5 (View.ld x (Rect.unit ![0, 0] S1x1024.size inb_S1x4096_S1x1024_0_0)))
        (View.ld W (Rect.unit ![0, 0] S1024x256.size inb_S4162x256_S1024x256_0_0))
        (View.ld x (Rect.unit ![0, 1024] S1x1024.size inb_S1x4096_S1x1024_0_1024))
        (View.ld W (Rect.unit ![1024, 0] S1024x256.size inb_S4162x256_S1024x256_1024_0)))
      (k0_pay9 (View.ld x (Rect.unit ![0, 2048] S1x1024.size inb_S1x4096_S1x1024_0_2048)))
      (View.ld W (Rect.unit ![2048, 0] S1024x256.size inb_S4162x256_S1024x256_2048_0))
      (View.ld x (Rect.unit ![0, 3072] S1x1024.size inb_S1x4096_S1x1024_0_3072))
      (View.ld W (Rect.unit ![3072, 0] S1024x256.size inb_S4162x256_S1024x256_3072_0)))
    (k0_pay13 r)
    (k0_pay15 (View.ld W (Rect.unit ![4096, 0] S66x256.size inb_S4162x256_S66x256_4096_0)))
    w

/-- What the run leaves in the first result's block. -/
theorem block0_eq (c : Dev nD) (t : Fin cfg0.N) :
    (outsAt0 m c t).1 = policyBlock (V m c main_v0) (V m c main_v1) (V m c main_arg3) (V m c main_arg5) := by
  unfold outsAt0 out0_A_0
  dsimp only
  rw [View.read_writes_eq_canon _ _ _ (cover0_A_0 c _ _ _ _ _ _ _ _ _ _ _ _ _ _ _ _ _ _ _ _ _ _)]
  unfold kernelRun0_A
  dsimp only
  sl_unfold_words
  simp only [readCov_of_whole]
  refine (View.canon_cons_unit_lit (S := S1x64) _ _ _ (by decide)).trans ?_
  have hr : ∀ X : S1x2.Idx → Elt F .f32, View.ld X (Rect.unit ![0, 0] S1x2.size inb_S1x2_S1x2_0_0) = X := fun X =>
    View.ld_unit_lit (S := S1x2) inb_S1x2_S1x2_0_0 X (by decide)
  have hw : ∀ X : S256x64.Idx → Elt F .f32, View.ld X (Rect.unit ![0, 0] ![256, 64] inb_S256x64_S256x64_0_0) = X := fun X =>
    View.ld_unit_lit (S := S256x64) inb_S256x64_S256x64_0_0 X (by decide)
  rw [hr, hw]
  rfl

/-- What the run leaves in the second result's block. -/
theorem block1_eq (c : Dev nD) (t : Fin cfg0.N) :
    (outsAt0 m c t).2 = valueBlock (V m c main_v0) (V m c main_v1) (V m c main_arg7) (V m c main_arg9) := by
  unfold outsAt0 out0_A_1
  dsimp only
  rw [View.read_writes_eq_canon _ _ _ (cover0_A_1 c _ _ _ _ _ _ _ _ _ _ _ _ _ _ _ _ _ _ _ _ _ _)]
  unfold kernelRun0_A
  dsimp only
  sl_unfold_words
  simp only [readCov_of_whole]
  refine (View.canon_cons_unit_lit (S := S1x1) _ _ _ (by decide)).trans ?_
  have hr : ∀ X : S1x2.Idx → Elt F .f32, View.ld X (Rect.unit ![0, 0] S1x2.size inb_S1x2_S1x2_0_0) = X := fun X =>
    View.ld_unit_lit (S := S1x2) inb_S1x2_S1x2_0_0 X (by decide)
  have hw : ∀ X : S256x1.Idx → Elt F .f32, View.ld X (Rect.unit ![0, 0] ![256, 1] inb_S256x1_S256x1_0_0) = X := fun X =>
    View.ld_unit_lit (S := S256x1) inb_S256x1_S256x1_0_0 X (by decide)
  rw [hr, hw]
  rfl

end Cert.Proof

end
-- ==== Proof.Result.lean ====
/- What the kernel's program leaves: each region array is the block it was written from, the reshapes around the region
   re-lay the vectors as rows and back, and so the two results are the blocks' terms over the arguments, with every
   argument as launched. -/
module

public import proofs.«01_k».proof.Proof.Block

@[expose] public section

noncomputable section

namespace Cert.Proof

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ) (ρ : Dev nD → PrngReg)

/-- Each result's window is one block at the array's origin. -/
theorem origin0 : ∀ t : Fin cfg0.N, win0_0.index t (0 : Fin 2) = 0 ∧ win0_0.index t (1 : Fin 2) = 0 :=
  (by decide +kernel : ∀ t : Fin grid0.N, _)

theorem origin1 : ∀ t : Fin cfg0.N, win0_1.index t (0 : Fin 2) = 0 ∧ win0_1.index t (1 : Fin 2) = 0 :=
  (by decide +kernel : ∀ t : Fin grid0.N, _)

/-- So an index of the block is the same index of the array. -/
theorem emb_block0 (y : S1x64.Idx) : ((cfg0.win 0).blk t0_0).view.emb y = y := by
  obtain ⟨e0, e1⟩ := origin0 t0_0
  funext a; apply Fin.ext
  match a with
  | ⟨0, _⟩ => show win0_0.index t0_0 (0 : Fin 2) * 1 + 1 * (y 0).val = (y 0).val; omega
  | ⟨1, _⟩ => show win0_0.index t0_0 (1 : Fin 2) * 64 + 1 * (y 1).val = (y 1).val; omega

theorem emb_block1 (y : S1x1.Idx) : ((cfg0.win 1).blk t0_0).view.emb y = y := by
  obtain ⟨e0, e1⟩ := origin1 t0_0
  funext a; apply Fin.ext
  match a with
  | ⟨0, _⟩ => show win0_1.index t0_0 (0 : Fin 2) * 1 + 1 * (y 0).val = (y 0).val; omega
  | ⟨1, _⟩ => show win0_1.index t0_0 (1 : Fin 2) * 1 + 1 * (y 1).val = (y 1).val; omega

/-- With one point there is no second block to meet the first. -/
theorem one_block (P : Fin cfg0.N → Fin cfg0.N → Prop) (t t' : Fin cfg0.N) (hne : t ≠ t') : P t t' :=
  absurd ((fin_N0 t).trans (fin_N0 t').symm) hne

/-- The first result's array after the region. -/
theorem array0 (c : Dev nD) : (dats m 0 c).arrAt 0 cfg0.N
    = policyBlock (V m c main_v0) (V m c main_v1) (V m c main_arg3) (V m c main_arg5) := by
  have b := (dats m 0 c).read_blk_arrAt_eq_flushed 0 (fun t t' _ _ h => one_block
    (fun t t' => Disjoint ((cfg0.win 0).blk t).view.set ((cfg0.win 0).blk t').view.set) t t' h) cfg0.N t0_0 t0_0.isLt (flush0_0 _)
  have f : (dats m 0 c).flushed 0 t0_0 = (cfg0.win 0).cut (grid0.coords t0_0) ((outsAt0 m c t0_0).1) := by
    show (cfg0.win 0).cut (grid0.coords t0_0) ((dats m 0 c).after 0 t0_0) = _
    rw [after0_0]
  rw [f, block0_eq] at b
  funext y
  have b' : (dats m 0 c).arrAt 0 cfg0.N (((cfg0.win 0).blk t0_0).view.emb y) = _ := congrFun b y
  rw [emb_block0] at b'
  exact b'

/-- The second result's array after the region. -/
theorem array1 (c : Dev nD) : (dats m 0 c).arrAt 1 cfg0.N
    = valueBlock (V m c main_v0) (V m c main_v1) (V m c main_arg7) (V m c main_arg9) := by
  have b := (dats m 0 c).read_blk_arrAt_eq_flushed 1 (fun t t' _ _ h => one_block
    (fun t t' => Disjoint ((cfg0.win 1).blk t).view.set ((cfg0.win 1).blk t').view.set) t t' h) cfg0.N t0_0 t0_0.isLt (flush0_1 _)
  have f : (dats m 0 c).flushed 1 t0_0 = (cfg0.win 1).cut (grid0.coords t0_0) ((outsAt0 m c t0_0).2) := by
    show (cfg0.win 1).cut (grid0.coords t0_0) ((dats m 0 c).after 1 t0_0) = _
    rw [after0_1]
  rw [f, block1_eq] at b
  funext y
  have b' : (dats m 0 c).arrAt 1 cfg0.N (((cfg0.win 1).blk t0_0).view.emb y) = _ := congrFun b y
  rw [emb_block1] at b'
  exact b'

/-- Before the region the observations are laid out as one row. -/
theorem row_x (c : Dev nD) : V m c main_v0
    = shapeCast S1x4096 (m ((c : Thread nD τ).loc main_arg0)) shapeCasts_S4096_S1x4096 := by
  show StableHlo.after (List.flatten [hostOps0]) (fun b => m (c, b)) (Proc.devRef .tc main_v0) = _
  simp only [hostOps0, List.flatten_cons, List.flatten_nil, List.append_nil]
  after_results <;> rfl

/-- So are the resource figures. -/
theorem row_r (c : Dev nD) : V m c main_v1
    = shapeCast S1x2 (m ((c : Thread nD τ).loc main_arg1)) shapeCasts_S2_S1x2 := by
  show StableHlo.after (List.flatten [hostOps0]) (fun b => m (c, b)) (Proc.devRef .tc main_v1) = _
  simp only [hostOps0, List.flatten_cons, List.flatten_nil, List.append_nil]
  after_results <;> rfl

/-- After the region the first result's row is laid out as a vector. -/
theorem tail0 (c : Dev nD) : Pipeline.afterTail₀ cfgs (dats m) 0 (V0 m) [hostOps1] c main_v3
    = shapeCast S64 ((dats m 0 c).arrAt 0 cfg0.N) shapeCasts_S1x64_S64 := by
  unfold Pipeline.afterTail₀
  simp only [hostOps1, List.flatten_cons, List.flatten_nil, List.append_nil]
  have e := Pipeline.withArrays_arr cfg0.spec (by decide) c (V0 m c) (fun w => (dats m 0 c).arrAt w cfg0.N) 0
  after_results
  exact congrArg (fun a => shapeCast S64 a shapeCasts_S1x64_S64) e

theorem tail1 (c : Dev nD) : Pipeline.afterTail₀ cfgs (dats m) 0 (V0 m) [hostOps1] c main_v4
    = shapeCast S1 ((dats m 0 c).arrAt 1 cfg0.N) shapeCasts_S1x1_S1 := by
  unfold Pipeline.afterTail₀
  simp only [hostOps1, List.flatten_cons, List.flatten_nil, List.append_nil]
  have e := Pipeline.withArrays_arr cfg0.spec (by decide) c (V0 m c) (fun w => (dats m 0 c).arrAt w cfg0.N) 1
  after_results
  exact congrArg (fun a => shapeCast S1 a shapeCasts_S1x1_S1) e

/-- The policy logits over the arguments. -/
def policyOut (x : S4096.Idx → Elt F .f32) (r : S2.Idx → Elt F .f32) (W : S4162x256.Idx → Elt F .f32)
    (w : S256x64.Idx → Elt F .f32) : S64.Idx → Elt F .f32 :=
  shapeCast S64 (policyBlock (shapeCast S1x4096 x shapeCasts_S4096_S1x4096) (shapeCast S1x2 r shapeCasts_S2_S1x2) W w)
    shapeCasts_S1x64_S64

/-- The value over the arguments. -/
def valueOut (x : S4096.Idx → Elt F .f32) (r : S2.Idx → Elt F .f32) (W : S4162x256.Idx → Elt F .f32)
    (w : S256x1.Idx → Elt F .f32) : S1.Idx → Elt F .f32 :=
  shapeCast S1 (valueBlock (shapeCast S1x4096 x shapeCasts_S4096_S1x4096) (shapeCast S1x2 r shapeCasts_S2_S1x2) W w)
    shapeCasts_S1x1_S1

/-- The two results after the run. -/
theorem kernel_results : θ_run defs (onTc (τ := τ) (main (F := F))) ⟨m, fun _ => 0, ρ⟩ fun r => ∀ c : Dev nD,
    r.2.mem ((c : Thread nD τ).loc main_v3) = policyOut (m ((c : Thread nD τ).loc main_arg0)) (m ((c : Thread nD τ).loc main_arg1))
        (m ((c : Thread nD τ).loc main_arg3)) (m ((c : Thread nD τ).loc main_arg5))
    ∧ r.2.mem ((c : Thread nD τ).loc main_v4) = valueOut (m ((c : Thread nD τ).loc main_arg0)) (m ((c : Thread nD τ).loc main_arg1))
        (m ((c : Thread nD τ).loc main_arg7)) (m ((c : Thread nD τ).loc main_arg9))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10) := by
  refine (θ_run defs _ _).mono (fun r h c => ⟨?_, ?_, ?_, ?_, ?_, ?_, ?_, ?_, ?_, ?_, ?_, ?_, ?_⟩) (run_main m ρ)
  · refine ((h c).2 main_v3 (Pipeline.mem_restRefs_of main_v3 (by decide) (by decide))).trans ?_
    rw [tail0, array0, row_x, row_r, V_main_arg3, V_main_arg5]
    rfl
  · refine ((h c).2 main_v4 (Pipeline.mem_restRefs_of main_v4 (by decide) (by decide))).trans ?_
    rw [tail1, array1, row_x, row_r, V_main_arg7, V_main_arg9]
    rfl
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)
  · exact ((h c).2 main_arg5 (Pipeline.mem_restRefs_of main_arg5 (by decide) (by decide))).trans (W_main_arg5 m (dats m) c)
  · exact ((h c).2 main_arg6 (Pipeline.mem_restRefs_of main_arg6 (by decide) (by decide))).trans (W_main_arg6 m (dats m) c)
  · exact ((h c).2 main_arg7 (Pipeline.mem_restRefs_of main_arg7 (by decide) (by decide))).trans (W_main_arg7 m (dats m) c)
  · exact ((h c).2 main_arg8 (Pipeline.mem_restRefs_of main_arg8 (by decide) (by decide))).trans (W_main_arg8 m (dats m) c)
  · exact ((h c).2 main_arg9 (Pipeline.mem_restRefs_of main_arg9 (by decide) (by decide))).trans (W_main_arg9 m (dats m) c)
  · exact ((h c).2 main_arg10 (Pipeline.mem_restRefs_of main_arg10 (by decide) (by decide))).trans (W_main_arg10 m (dats m) c)

end Cert.Proof

end
-- ==== Proof.Reference.lean ====
/- What the reference computes, over the reals, at an index: the two-layer sums on its own input vector and biases. -/
module

public import proofs.«01_k».proof.Proof.Gen.ReferenceIdeal.Read
public import proofs.«01_k».proof.Proof.Sums

@[expose] public section

noncomputable section

namespace Cert.Proof

open Cert.ReferenceIdeal Cert.ReferenceIdeal.Gen Cert.ReferenceIdeal.Read
open Idealize.ShloMosaic Idealize.ShloMosaic.ValueIdx

variable (x0 : (⟨S4096, .f32⟩ : BufTy).Contents (Elt Ideal)) (x1 : (⟨S2, .f32⟩ : BufTy).Contents (Elt Ideal))
  (x2 : (⟨S64, .f32⟩ : BufTy).Contents (Elt Ideal))

/-- The three inputs laid end to end. -/
theorem input_apply (k : Fin 4162) :
    val_main_v0 (F := Ideal) x0 x1 x2 (ix1 k)
      = state (fun i => x0 (ix1 i)) (fun i => x1 (ix1 i)) (fun i => x2 (ix1 i)) k := by
  unfold val_main_v0 state
  split
  · rename_i h
    exact concatenate_apply_piece (t := S4162) 0 _ _ (ix1 k) 0 (by show (0 : Nat) < 3; decide) S4096 x0 rfl rfl 0 rfl
      (ix1 (⟨k.val, h⟩ : Fin 4096)) (fun b hb => absurd (Subsingleton.elim _ _) hb) (Nat.zero_add _)
  · rename_i h
    split
    · rename_i h'
      exact concatenate_apply_piece (t := S4162) 0 _ _ (ix1 k) 1 (by show (1 : Nat) < 3; decide) S2 x1 rfl rfl 4096 rfl
        (ix1 (⟨k.val - 4096, by omega⟩ : Fin 2)) (fun b hb => absurd (Subsingleton.elim _ _) hb)
        (by show 4096 + (k.val - 4096) = k.val; omega)
    · rename_i h'
      exact concatenate_apply_piece (t := S4162) 0 _ _ (ix1 k) 2 (by show (2 : Nat) < 3; decide) S64 x2 rfl rfl 4098 rfl
        (ix1 (⟨k.val - 4098, by omega⟩ : Fin 64)) (fun b hb => absurd (Subsingleton.elim _ _) hb)
        (by show 4098 + (k.val - 4098) = k.val; omega)

/-- A hidden unit of the policy head. -/
theorem hiddenP_apply (x3 : (⟨S4162x256, .f32⟩ : BufTy).Contents (Elt Ideal)) (x4 : (⟨S256, .f32⟩ : BufTy).Contents (Elt Ideal)) (j : Fin 256) :
    val_main_v3 (F := Ideal) x0 x1 x2 x3 x4 (ix1 j)
      = hidden (state (fun i => x0 (ix1 i)) (fun i => x1 (ix1 i)) fun i => x2 (ix1 i)) (fun k j => x3 (ix2 k j)) (fun j => x4 (ix1 j)) j := by
  rw [val_main_v3_apply, val_main_v2_apply, val_main_call0_v0_apply, val_main_call0_cst_apply, val_main_v1_apply]
  have e : ∀ k : Fin 4162, val_main_v0 (F := Ideal) x0 x1 x2 (lidx_main_v1 (ix1 j) k) * x3 (ridx_main_v1 (ix1 j) k)
      = state (fun i => x0 (ix1 i)) (fun i => x1 (ix1 i)) (fun i => x2 (ix1 i)) k * x3 (ix2 k j) := fun k => by
    have el : lidx_main_v1 (ix1 j) k = ix1 k := eq_ix1 _
    have er : ridx_main_v1 (ix1 j) k = ix2 k j := eq_ix2 _
    rw [el, er, input_apply]
  rw [Finset.sum_congr rfl fun k _ => e k]
  show max _ (Ideal.ofBits .f32 0x00000000#32) = _
  rw [Ideal.ofBits_zero_f32]
  rfl

/-- A hidden unit of the value head. -/
theorem hiddenV_apply (x7 : (⟨S4162x256, .f32⟩ : BufTy).Contents (Elt Ideal)) (x8 : (⟨S256, .f32⟩ : BufTy).Contents (Elt Ideal)) (j : Fin 256) :
    val_main_v8 (F := Ideal) x0 x1 x2 x7 x8 (ix1 j)
      = hidden (state (fun i => x0 (ix1 i)) (fun i => x1 (ix1 i)) fun i => x2 (ix1 i)) (fun k j => x7 (ix2 k j)) (fun j => x8 (ix1 j)) j := by
  rw [val_main_v8_apply, val_main_v7_apply, val_main_call1_v0_apply, val_main_call1_cst_apply, val_main_v6_apply]
  have e : ∀ k : Fin 4162, val_main_v0 (F := Ideal) x0 x1 x2 (lidx_main_v6 (ix1 j) k) * x7 (ridx_main_v6 (ix1 j) k)
      = state (fun i => x0 (ix1 i)) (fun i => x1 (ix1 i)) (fun i => x2 (ix1 i)) k * x7 (ix2 k j) := fun k => by
    have el : lidx_main_v6 (ix1 j) k = ix1 k := eq_ix1 _
    have er : ridx_main_v6 (ix1 j) k = ix2 k j := eq_ix2 _
    rw [el, er, input_apply]
  rw [Finset.sum_congr rfl fun k _ => e k]
  show max _ (Ideal.ofBits .f32 0x00000000#32) = _
  rw [Ideal.ofBits_zero_f32]
  rfl

/-- The reference's logits. -/
theorem refPolicy_apply (x3 : (⟨S4162x256, .f32⟩ : BufTy).Contents (Elt Ideal)) (x4 : (⟨S256, .f32⟩ : BufTy).Contents (Elt Ideal))
    (x5 : (⟨S256x64, .f32⟩ : BufTy).Contents (Elt Ideal)) (x6 : (⟨S64, .f32⟩ : BufTy).Contents (Elt Ideal)) (i : Fin 64) :
    val_main_v5 (F := Ideal) x0 x1 x2 x3 x4 x5 x6 (ix1 i)
      = output (hidden (state (fun i => x0 (ix1 i)) (fun i => x1 (ix1 i)) fun i => x2 (ix1 i)) (fun k j => x3 (ix2 k j)) fun j => x4 (ix1 j))
          (fun j => x5 (ix2 j i)) (x6 (ix1 i)) := by
  rw [val_main_v5_apply, val_main_v4_apply]
  refine congrArg (· + x6 (ix1 i)) (Finset.sum_congr rfl fun j _ => ?_)
  have el : lidx_main_v4 (ix1 i) j = ix1 j := eq_ix1 _
  have er : ridx_main_v4 (ix1 i) j = ix2 j i := eq_ix2 _
  rw [el, er, hiddenP_apply]

/-- The reference's value. -/
theorem refValue_apply (x7 : (⟨S4162x256, .f32⟩ : BufTy).Contents (Elt Ideal)) (x8 : (⟨S256, .f32⟩ : BufTy).Contents (Elt Ideal))
    (x9 : (⟨S256x1, .f32⟩ : BufTy).Contents (Elt Ideal)) (x10 : (⟨S1, .f32⟩ : BufTy).Contents (Elt Ideal)) (i : Fin 1) :
    val_main_v10 (F := Ideal) x0 x1 x2 x7 x8 x9 x10 (ix1 i)
      = output (hidden (state (fun i => x0 (ix1 i)) (fun i => x1 (ix1 i)) fun i => x2 (ix1 i)) (fun k j => x7 (ix2 k j)) fun j => x8 (ix1 j))
          (fun j => x9 (ix2 j i)) (x10 (ix1 i)) := by
  rw [val_main_v10_apply, val_main_v9_apply]
  refine congrArg (· + x10 (ix1 i)) (Finset.sum_congr rfl fun j _ => ?_)
  have el : lidx_main_v9 (ix1 i) j = ix1 j := eq_ix1 _
  have er : ridx_main_v9 (ix1 i) j = ix2 j i := eq_ix2 _
  rw [el, er, hiddenV_apply]

end Cert.Proof

end
-- ==== Proof.SetUp.lean ====
/- What the precondition says of the inputs: the performance figures are ones and the four biases are zeros. -/
module

public import proofs.«01_k».proof.Proof.Gen.Pre_as_set_up
public import Idealize.ShloMosaic.Lib.ReduceAll
public import Idealize.ShloMosaic.Lib.ValueIdx
public import Idealize.ShloMosaic.Lib.IdealHost
public import Idealize.ShloMosaic.PureOps.Ideal.Laws

@[expose] public section

noncomputable section

namespace Cert.Proof

open Cert.Pre_as_set_up Cert.Pre_as_set_up.Gen Idealize.ShloMosaic Idealize.ShloMosaic.ValueIdx

/-- An equality test over the reals that answers yes is an equality. -/
theorem eq_of_test {φ : FTy} {a b : EReal} (h : FloatOps.cmpf (F := Ideal) (φ := φ) .oeq a b = 1#1) : a = b := by
  by_contra hne
  have h' : BitVec.ofBool (decide (a = b)) = 1#1 := h
  rw [decide_eq_false hne] at h'
  exact absurd h' (by decide)

theorem one_index : Subsingleton S_.Idx := ⟨fun _ _ => funext fun a => a.elim0⟩

/-- The five facts. -/
theorem as_set_up_spec (x : FVec Ideal S4096 .f32) (ri : FVec Ideal S2 .f32) (perf : FVec Ideal S64 .f32)
    (W1 : FVec Ideal S4162x256 .f32) (b1 : FVec Ideal S256 .f32) (W2 : FVec Ideal S256x64 .f32) (b2 : FVec Ideal S64 .f32)
    (V1 : FVec Ideal S4162x256 .f32) (bv1 : FVec Ideal S256 .f32) (V2 : FVec Ideal S256x1 .f32) (bv2 : FVec Ideal S1 .f32)
    (h : fn (F := Ideal) x ri perf W1 b1 W2 b2 V1 bv1 V2 bv2 = fun _ => 1#1) :
    (∀ i, perf i = 1) ∧ (∀ i, b1 i = 0) ∧ (∀ i, b2 i = 0) ∧ (∀ i, bv1 i = 0) ∧ ∀ i, bv2 i = 0 := by
  haveI := one_index
  have h0 := congrFun h ix0
  unfold fn fn_part1 at h0
  obtain ⟨h1, e5⟩ := IntOp.andi_eq_one.1 h0
  obtain ⟨h2, e4⟩ := IntOp.andi_eq_one.1 h1
  obtain ⟨h3, e3⟩ := IntOp.andi_eq_one.1 h2
  obtain ⟨e1, e2⟩ := IntOp.andi_eq_one.1 h3
  refine ⟨fun i => ?_, fun i => ?_, fun i => ?_, fun i => ?_, fun i => ?_⟩
  · exact (eq_of_test (Host.reduce_andi_all _ _ _ _ _ e1 i)).trans Ideal.ofBits_one_f32
  · exact (eq_of_test (Host.reduce_andi_all _ _ _ _ _ e2 i)).trans Ideal.ofBits_zero_f32
  · exact (eq_of_test (Host.reduce_andi_all _ _ _ _ _ e3 i)).trans Ideal.ofBits_zero_f32
  · exact (eq_of_test (Host.reduce_andi_all _ _ _ _ _ e4 i)).trans Ideal.ofBits_zero_f32
  · exact (eq_of_test (Host.reduce_andi_all _ _ _ _ _ e5 i)).trans Ideal.ofBits_zero_f32

end Cert.Proof

end
-- ==== Proof.Equation.lean ====
/- The kernel's two results, over the reals, as the mathematics: each stretch reads its own part of the input vector and of
   the weights, so the five stretches add up to the whole weighted sum, with the performance figures taken as ones and the
   biases as zeros. -/
module

public import proofs.«01_k».proof.Proof.Result

@[expose] public section

noncomputable section

namespace Cert.Proof

open Cert.KernelIdeal Cert.KernelIdeal.Gen
open Idealize.ShloMosaic Idealize.ShloMosaic.TcCoe Idealize.SL.Sem Idealize.ShloMosaic.ValueIdx

variable (x : S4096.Idx → EReal) (r : S2.Idx → EReal) (W : S4162x256.Idx → EReal)

/-- The input vector the kernel works with: its performance figures are ones. -/
def onesState (k : Fin 4162) : EReal :=
  state (fun i => x (ix1 i)) (fun i => r (ix1 i)) (fun _ => 1) k

/-- One stretch of 1024 rows from row `o` is that part of the whole weighted sum. -/
theorem stretch_part (o : Nat) (ho : o + 1024 ≤ 4096)
    (hx : ∀ a : Fin 2, (![0, o] : Fin 2 → Nat) a + S1x1024.size a ≤ S1x4096.size a)
    (hW : ∀ a : Fin 2, (![o, 0] : Fin 2 → Nat) a + S1024x256.size a ≤ S4162x256.size a) (j : Fin 256) :
    stretch (View.ld (Val := Elt Ideal) (e' := .f32) W (Rect.unit (s := S4162x256) ![o, 0] S1024x256.size hW))
        (View.ld (Val := Elt Ideal) (e' := .f32) (shapeCast S1x4096 x shapeCasts_S4096_S1x4096) (Rect.unit (s := S1x4096) ![0, o] S1x1024.size hx)) j
      = ∑ k : Fin 1024, onesState x r ⟨o + k.val, by omega⟩ * W (ix2 (⟨o + k.val, by omega⟩ : Fin 4162) j) := by
  refine Finset.sum_congr rfl fun k _ => ?_
  have eW := View.ld_unit_apply_of (Val := Elt Ideal) (e := .f32) W ![o, 0] S1024x256.size hW (ix2 k j)
    (ix2 (⟨o + k.val, by omega⟩ : Fin 4162) j) (fun a => by
      match a with
      | ⟨0, _⟩ => rfl
      | ⟨1, _⟩ => exact (Nat.zero_add _).symm)
  have ex := View.ld_unit_apply_of (Val := Elt Ideal) (e := .f32) (shapeCast S1x4096 x shapeCasts_S4096_S1x4096)
    ![0, o] S1x1024.size hx (ix2 (0 : Fin 1) k) (ix2 (0 : Fin 1) (⟨o + k.val, by omega⟩ : Fin 4096)) (fun a => by
      match a with
      | ⟨0, _⟩ => rfl
      | ⟨1, _⟩ => rfl)
  rw [eW, ex]
  have es : onesState x r ⟨o + k.val, by omega⟩ = x (ix1 (⟨o + k.val, by omega⟩ : Fin 4096)) :=
    dif_pos (by show o + k.val < 4096; omega)
  rw [es, shapeCast_a_1a_apply, mul_comm]

/-- The last stretch is the rest of it. -/
theorem tail_part (j : Fin 256) :
    tailStretch (View.ld (Val := Elt Ideal) (e' := .f32) W (Rect.unit (s := S4162x256) ![4096, 0] S66x256.size inb_S4162x256_S66x256_4096_0))
        (shapeCast S1x2 r shapeCasts_S2_S1x2) j
      = ∑ k : Fin 66, onesState x r ⟨4096 + k.val, by omega⟩ * W (ix2 (⟨4096 + k.val, by omega⟩ : Fin 4162) j) := by
  refine Finset.sum_congr rfl fun k _ => ?_
  have eW := View.ld_unit_apply_of (Val := Elt Ideal) (e := .f32) W ![4096, 0] S66x256.size inb_S4162x256_S66x256_4096_0 (ix2 k j)
    (ix2 (⟨4096 + k.val, by omega⟩ : Fin 4162) j) (fun a => by
      match a with
      | ⟨0, _⟩ => rfl
      | ⟨1, _⟩ => exact (Nat.zero_add _).symm)
  rw [eW, mul_comm]
  congr 1
  unfold tailInput onesState state
  by_cases h : k.val < 2
  · rw [dif_pos h, dif_neg (by show ¬ 4096 + k.val < 4096; omega), dif_pos (by show 4096 + k.val < 4098; omega),
      shapeCast_a_1a_apply]
    exact congrArg (fun i : Fin 2 => r (ix1 i)) (Fin.ext (Nat.add_sub_cancel_left (n := 4096) (m := k.val)).symm)
  · rw [dif_neg h, dif_neg (by show ¬ 4096 + k.val < 4096; omega), dif_neg (by show ¬ 4096 + k.val < 4098; omega)]

/-- The stretches of a hidden unit, added in the kernel's order, are the whole weighted sum. -/
theorem stretches_eq (j : Fin 256) :
    stretch (View.ld (Val := Elt Ideal) (e' := .f32) W (Rect.unit ![0, 0] S1024x256.size inb_S4162x256_S1024x256_0_0))
        (View.ld (Val := Elt Ideal) (e' := .f32) (shapeCast S1x4096 x shapeCasts_S4096_S1x4096) (Rect.unit ![0, 0] S1x1024.size inb_S1x4096_S1x1024_0_0)) j
      + stretch (View.ld (Val := Elt Ideal) (e' := .f32) W (Rect.unit ![1024, 0] S1024x256.size inb_S4162x256_S1024x256_1024_0))
        (View.ld (Val := Elt Ideal) (e' := .f32) (shapeCast S1x4096 x shapeCasts_S4096_S1x4096) (Rect.unit ![0, 1024] S1x1024.size inb_S1x4096_S1x1024_0_1024)) j
      + stretch (View.ld (Val := Elt Ideal) (e' := .f32) W (Rect.unit ![2048, 0] S1024x256.size inb_S4162x256_S1024x256_2048_0))
        (View.ld (Val := Elt Ideal) (e' := .f32) (shapeCast S1x4096 x shapeCasts_S4096_S1x4096) (Rect.unit ![0, 2048] S1x1024.size inb_S1x4096_S1x1024_0_2048)) j
      + stretch (View.ld (Val := Elt Ideal) (e' := .f32) W (Rect.unit ![3072, 0] S1024x256.size inb_S4162x256_S1024x256_3072_0))
        (View.ld (Val := Elt Ideal) (e' := .f32) (shapeCast S1x4096 x shapeCasts_S4096_S1x4096) (Rect.unit ![0, 3072] S1x1024.size inb_S1x4096_S1x1024_0_3072)) j
      + tailStretch (View.ld (Val := Elt Ideal) (e' := .f32) W (Rect.unit ![4096, 0] S66x256.size inb_S4162x256_S66x256_4096_0))
        (shapeCast S1x2 r shapeCasts_S2_S1x2) j
      = ∑ k : Fin 4162, onesState x r k * W (ix2 k j) := by
  rw [stretch_part x r W 0 (by omega), stretch_part x r W 1024 (by omega), stretch_part x r W 2048 (by omega),
    stretch_part x r W 3072 (by omega), tail_part x r W, sum_stretches]

/-- The policy logits, over the reals. -/
theorem policyOut_apply (w : S256x64.Idx → EReal) (i : Fin 64) :
    policyOut (F := Ideal) x r W w (ix1 i)
      = output (hidden (onesState x r) (fun k j => W (ix2 k j)) fun _ => 0) (fun j => w (ix2 j i)) 0 := by
  unfold policyOut policyBlock output
  rw [shapeCast_1a_a_apply, pay1_apply, add_zero]
  refine Finset.sum_congr rfl fun j _ => ?_
  rw [policySum_apply]
  unfold five hidden
  rw [stretches_eq, add_zero]

/-- The value, over the reals. -/
theorem valueOut_apply (w : S256x1.Idx → EReal) :
    valueOut (F := Ideal) x r W w (ix1 (0 : Fin 1))
      = output (hidden (onesState x r) (fun k j => W (ix2 k j)) fun _ => 0) (fun j => w (ix2 j (0 : Fin 1))) 0 := by
  unfold valueOut valueBlock output
  refine (shapeCast_1a_a_apply (a := 1) _ shapeCasts_S1x1_S1 (0 : Fin 1)).trans ?_
  rw [pay2_apply, add_zero]
  refine Finset.sum_congr rfl fun j _ => ?_
  rw [valueSum_apply, stretches_eq]
  unfold hidden
  rw [add_zero]

end Cert.Proof

end
-- ==== Proof.lean ====
/- The certificate, put together. The kernel, in both number systems, and the reference run to the end with their inputs
   unchanged and every counter at zero; and over the reals the kernel's two results are the reference's, whenever the
   performance figures are ones and the biases zeros. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_as_set_up
public import Idealize.ShloMosaic.Adequacy
public import Idealize.ShloMosaic.Init
public import proofs.«01_k».proof.Proof.Sums
public import proofs.«01_k».proof.Proof.Payload
public import proofs.«01_k».proof.Proof.Block
public import proofs.«01_k».proof.Proof.Result
public import proofs.«01_k».proof.Proof.Reference
public import proofs.«01_k».proof.Proof.SetUp
public import proofs.«01_k».proof.Proof.Equation
public import Idealize.ShloMosaic.Lib.Quiescent

@[expose] public section

noncomputable section

namespace Cert.Proof

open Idealize.ShloMosaic Idealize.ShloMosaic.TcCoe Idealize.SL.Sem Idealize.ShloMosaic.ValueIdx

/-- The reference runs, leaves its inputs as they were, and has no counter that could be other than zero. -/
theorem reference_frame : Cert.quiescent_ReferenceIdeal := fun m g _ =>
  (θ_run (Cert.ReferenceIdeal.defs (F := Ideal)) _ _).mono
    (fun r h => ⟨fun c => (h c).2.2, sem_eq_zero_of_no_sems (by decide) r.2⟩) (Cert.ReferenceIdeal.Value.run (F := Ideal) m g)

/-- The kernel's logits are the reference's, when the performance figures are ones and the policy biases zeros. -/
theorem policy_eq (x : Cert.KernelIdeal.S4096.Idx → EReal) (r : Cert.KernelIdeal.S2.Idx → EReal)
    (perf : Cert.KernelIdeal.S64.Idx → EReal) (W : Cert.KernelIdeal.S4162x256.Idx → EReal)
    (b : Cert.KernelIdeal.S256.Idx → EReal) (w : Cert.KernelIdeal.S256x64.Idx → EReal) (b' : Cert.KernelIdeal.S64.Idx → EReal)
    (hp : ∀ i, perf i = 1) (hb : ∀ i, b i = 0) (hb' : ∀ i, b' i = 0) :
    Cert.ReferenceIdeal.Read.val_main_v5 (F := Ideal) x r perf W b w b' = policyOut (F := Ideal) x r W w := by
  funext i
  rw [eq_ix1 i]
  refine (refPolicy_apply x r perf W b w b' (i 0)).trans ?_
  rw [hb']
  simp only [hp, hb]
  exact (policyOut_apply x r W w (i 0)).symm

/-- The kernel's value is the reference's, when the performance figures are ones and the value biases zeros. -/
theorem value_eq (x : Cert.KernelIdeal.S4096.Idx → EReal) (r : Cert.KernelIdeal.S2.Idx → EReal)
    (perf : Cert.KernelIdeal.S64.Idx → EReal) (W : Cert.KernelIdeal.S4162x256.Idx → EReal)
    (b : Cert.KernelIdeal.S256.Idx → EReal) (w : Cert.KernelIdeal.S256x1.Idx → EReal) (b' : Cert.KernelIdeal.S1.Idx → EReal)
    (hp : ∀ i, perf i = 1) (hb : ∀ i, b i = 0) (hb' : ∀ i, b' i = 0) :
    Cert.ReferenceIdeal.Read.val_main_v10 (F := Ideal) x r perf W b w b' = valueOut (F := Ideal) x r W w := by
  funext i
  have hi : i = ix1 (0 : Fin 1) := (eq_ix1 i).trans (congrArg ix1 (Subsingleton.elim (α := Fin 1) _ _))
  rw [hi]
  refine (refValue_apply x r perf W b w b' 0).trans ?_
  rw [hb']
  simp only [hp, hb]
  exact (valueOut_apply x r W w).symm

/-- Both results agree with the reference's. -/
theorem results_agree : Cert.algebraic_KernelIdeal_ReferenceIdeal_pre_as_set_up := by
  intro m g m' g' hpre hargs
  refine ⟨_, _, kernel_results (F := Ideal) m g, ?_⟩
  refine (θ_run (Cert.ReferenceIdeal.defs (F := Ideal)) _ _).mono (fun r h c => ?_) (Cert.ReferenceIdeal.Value.run (F := Ideal) m' g')
  obtain ⟨hperf, hb1, hb2, hv1, hv2⟩ := as_set_up_spec _ _ _ _ _ _ _ _ _ _ _ (hpre c)
  obtain ⟨e0, e1, e2, e3, e4, e5, e6, e7, e8, e9, e10⟩ := hargs c
  refine ⟨(h c).1.trans ?_, (h c).2.1.trans ?_, (h c).2.2⟩
  · refine (Cert.ReferenceIdeal.Read.val_main_v5_eq _ _ _ _ _ _ _).trans ?_
    rw [e0, e1, e2, e3, e4, e5, e6]
    exact policy_eq _ _ _ _ _ _ _ hperf hb1 hb2
  · refine (Cert.ReferenceIdeal.Read.val_main_v10_eq _ _ _ _ _ _ _).trans ?_
    rw [e0, e1, e2, e7, e8, e9, e10]
    exact value_eq _ _ _ _ _ _ _ hperf hv1 hv2

/-- Every claim of the certificate. -/
theorem claim : Cert.Claim :=
  ⟨Cert.Kernel.Gen.facts, Cert.KernelIdeal.Gen.facts, Cert.ReferenceIdeal.Gen.facts, Cert.Pre_as_set_up.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    results_agree⟩

end Cert.Proof

end
